-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x7936 : Shape := ⟨3, ![128, 1, 7936]⟩
abbrev S992x8576 : Shape := ⟨2, ![992, 8576]⟩
abbrev S8576 : Shape := ⟨1, ![8576]⟩
abbrev S1072 : Shape := ⟨1, ![1072]⟩
abbrev S8 : Shape := ⟨1, ![8]⟩
abbrev S_ : Shape := ⟨0, ![]⟩
abbrev S1072x1 : Shape := ⟨2, ![1072, 1]⟩
abbrev S1x8 : Shape := ⟨2, ![1, 8]⟩
abbrev S1072x8 : Shape := ⟨2, ![1072, 8]⟩
abbrev S1x8576 : Shape := ⟨2, ![1, 8576]⟩
abbrev S128x7936 : Shape := ⟨2, ![128, 7936]⟩
abbrev S128x8576 : Shape := ⟨2, ![128, 8576]⟩
abbrev S992x512 : Shape := ⟨2, ![992, 512]⟩
abbrev S1x512 : Shape := ⟨2, ![1, 512]⟩
abbrev S128x512 : Shape := ⟨2, ![128, 512]⟩
abbrev S992x8x512 : Shape := ⟨3, ![992, 8, 512]⟩
abbrev S992x1x512 : Shape := ⟨3, ![992, 1, 512]⟩
abbrev S7936x512 : Shape := ⟨2, ![7936, 512]⟩
abbrev S128 : Shape := ⟨1, ![128]⟩
abbrev S128x1 : Shape := ⟨2, ![128, 1]⟩
abbrev S128x1x8576 : Shape := ⟨3, ![128, 1, 8576]⟩

abbrev nBuf : Space → Nat
  | .hbm => 22
  | .vmem => 9
  | .smem => 0
  | _ => 0

abbrev bufTy : (tb : Table) → Fin (tcTables nBuf tb) → BufTy
  | .hbm, ⟨0, _⟩ => ⟨S128x1x7936, .bf16⟩
  | .hbm, ⟨1, _⟩ => ⟨S992x8576, .i32⟩
  | .hbm, ⟨2, _⟩ => ⟨S8576, .f32⟩
  | .hbm, ⟨3, _⟩ => ⟨S1072, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S1072x1, .i32⟩
  | .hbm, ⟨9, _⟩ => ⟨S1x8, .i32⟩
  | .hbm, ⟨10, _⟩ => ⟨S1072x8, .i32⟩
  | .hbm, ⟨11, _⟩ => ⟨S1072x8, .i32⟩
  | .hbm, ⟨12, _⟩ => ⟨S1072x8, .i32⟩
  | .hbm, ⟨13, _⟩ => ⟨S_, .i32⟩
  | .hbm, ⟨14, _⟩ => ⟨S1072x8, .i32⟩
  | .hbm, ⟨15, _⟩ => ⟨S1072x8, .i32⟩
  | .hbm, ⟨16, _⟩ => ⟨S1x8576, .i32⟩
  | .hbm, ⟨17, _⟩ => ⟨S1x8576, .f32⟩
  | .hbm, ⟨18, _⟩ => ⟨S128x7936, .bf16⟩
  | .hbm, ⟨19, _⟩ => ⟨S1x8576, .f32⟩
  | .hbm, ⟨20, _⟩ => ⟨S128x8576, .bf16⟩
  | .hbm, ⟨21, _⟩ => ⟨S128x1x8576, .bf16⟩
  | .local _ .vmem, ⟨0, _⟩ => ⟨S128x7936, .bf16⟩
  | .local _ .vmem, ⟨1, _⟩ => ⟨S992x512, .i32⟩
  | .local _ .vmem, ⟨2, _⟩ => ⟨S992x512, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S128x512, .bf16⟩
  | .local _ .vmem, ⟨8, _⟩ => ⟨S128x512, .bf16⟩
  | _, _ => ⟨S128x1x7936, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x7936 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S992x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S128x1x7936 : Shape := ⟨3, ![128, 1, 7936]⟩
abbrev S992x8576 : Shape := ⟨2, ![992, 8576]⟩
abbrev S8576 : Shape := ⟨1, ![8576]⟩
abbrev S1072 : Shape := ⟨1, ![1072]⟩
abbrev S128x992x8 : Shape := ⟨3, ![128, 992, 8]⟩
abbrev S8 : Shape := ⟨1, ![8]⟩
abbrev S_ : Shape := ⟨0, ![]⟩
abbrev S992x1x8576 : Shape := ⟨3, ![992, 1, 8576]⟩
abbrev S1x8x1 : Shape := ⟨3, ![1, 8, 1]⟩
abbrev S992x8x8576 : Shape := ⟨3, ![992, 8, 8576]⟩
abbrev S128x8576 : Shape := ⟨2, ![128, 8576]⟩
abbrev S1072x1 : Shape := ⟨2, ![1072, 1]⟩
abbrev S1x8 : Shape := ⟨2, ![1, 8]⟩
abbrev S1072x8 : Shape := ⟨2, ![1072, 8]⟩
abbrev S128x7936 : Shape := ⟨2, ![128, 7936]⟩
abbrev S128 : Shape := ⟨1, ![128]⟩
abbrev S128x1 : Shape := ⟨2, ![128, 1]⟩
abbrev S1x8576 : Shape := ⟨2, ![1, 8576]⟩
abbrev S128x1x8576 : Shape := ⟨3, ![128, 1, 8576]⟩

abbrev nBuf : Space → Nat
  | .hbm => 44
  | .vmem => 0
  | .smem => 0
  | _ => 0

abbrev bufTy : (tb : Table) → Fin (tcTables nBuf tb) → BufTy
  | .hbm, ⟨0, _⟩ => ⟨S128x1x7936, .bf16⟩
  | .hbm, ⟨1, _⟩ => ⟨S992x8576, .i32⟩
  | .hbm, ⟨2, _⟩ => ⟨S8576, .f32⟩
  | .hbm, ⟨3, _⟩ => ⟨S1072, .i32⟩
  | .hbm, ⟨4, _⟩ => ⟨S128x992x8, .bf16⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S992x1x8576, .i32⟩
  | .hbm, ⟨10, _⟩ => ⟨S1x8x1, .i32⟩
  | .hbm, ⟨11, _⟩ => ⟨S992x8x8576, .i32⟩
  | .hbm, ⟨12, _⟩ => ⟨S992x8x8576, .i32⟩
  | .hbm, ⟨13, _⟩ => ⟨S992x8x8576, .i32⟩
  | .hbm, ⟨14, _⟩ => ⟨S_, .i32⟩
  | .hbm, ⟨15, _⟩ => ⟨S992x8x8576, .i32⟩
  | .hbm, ⟨16, _⟩ => ⟨S992x8x8576, .i32⟩
  | .hbm, ⟨17, _⟩ => ⟨S992x8x8576, .bf16⟩
  | .hbm, ⟨18, _⟩ => ⟨S128x8576, .f32⟩
  | .hbm, ⟨19, _⟩ => ⟨S1072x1, .i32⟩
  | .hbm, ⟨20, _⟩ => ⟨S1x8, .i32⟩
  | .hbm, ⟨21, _⟩ => ⟨S1072x8, .i32⟩
  | .hbm, ⟨22, _⟩ => ⟨S1072x8, .i32⟩
  | .hbm, ⟨23, _⟩ => ⟨S1072x8, .i32⟩
  | .hbm, ⟨24, _⟩ => ⟨S_, .i32⟩
  | .hbm, ⟨25, _⟩ => ⟨S1072x8, .i32⟩
  | .hbm, ⟨26, _⟩ => ⟨S1072x8, .i32⟩
  | .hbm, ⟨27, _⟩ => ⟨S8576, .i32⟩
  | .hbm, ⟨28, _⟩ => ⟨S8576, .f32⟩
  | .hbm, ⟨29, _⟩ => ⟨S128x7936, .bf16⟩
  | .hbm, ⟨30, _⟩ => ⟨S128x7936, .f32⟩
  | .hbm, ⟨31, _⟩ => ⟨S_, .f32⟩
  | .hbm, ⟨32, _⟩ => ⟨S128, .f32⟩
  | .hbm, ⟨33, _⟩ => ⟨S128x1, .f32⟩
  | .hbm, ⟨34, _⟩ => ⟨S1x8576, .f32⟩
  | .hbm, ⟨35, _⟩ => ⟨S128x8576, .f32⟩
  | .hbm, ⟨36, _⟩ => ⟨S128x8576, .f32⟩
  | .hbm, ⟨37, _⟩ => ⟨S128x8576, .f32⟩
  | .hbm, ⟨38, _⟩ => ⟨S128x8576, .f32⟩
  | .hbm, ⟨39, _⟩ => ⟨S1x8576, .f32⟩
  | .hbm, ⟨40, _⟩ => ⟨S128x8576, .f32⟩
  | .hbm, ⟨41, _⟩ => ⟨S128x8576, .f32⟩
  | .hbm, ⟨42, _⟩ => ⟨S128x8576, .bf16⟩
  | .hbm, ⟨43, _⟩ => ⟨S128x1x8576, .bf16⟩
  | _, _ => ⟨S128x1x7936, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.KernelBody.lean ====
/-
  What one run of the body of `Kernel` does to its staging buffers, and the pipeline's proof data: blocks of the last grid
  point overhang their arrays, so a buffer is stated only on the columns inside the array.
-/
module

public import proofs.«01_k».proof.Proof.Gen.Kernel.Frame
public import proofs.«01_k».proof.Proof.Gen.Kernel.Skeleton
public import Idealize.ShloMosaic.Lib.Pipeline.ValueKit
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

/-! ## The body's triple -/

/-- The body's one store, of a whole staging buffer, covers it. -/
theorem cover (p : Vec F S128x512 .bf16) (y : S128x512.Idx) :
    ∃ pc ∈ ([⟨Rect.unit (s := S128x512) ![0, 0] S128x512.size inb_S128x512_S128x512_0_0, p⟩] : List (View.Piece (Elt F) S128x512 .bf16)), y ∈ pc.1.set :=
  View.cover_of_tiled _ S128x512.size (by rfl) y

/-- The kernel body on whole staging buffers, the inputs' at contents `x0 … x3` and the output's at anything, leaves the
    inputs' as they were and the output's at the payload `k0_pay1` of the four inputs' contents. -/
theorem sound_kernel (c : Dev nD) (E : Set ℕ) (i : grid0.Coords)
    (arg1 : Memref sig .tc .vmem S128x7936 .bf16) (harg1 : arg1.IsWhole) (arg2 : Memref sig .tc .vmem S992x512 .i32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S128x512 .bf16) (harg5 : arg5.IsWhole)
    (x0 : Vec F S128x7936 .bf16) (x1 : Vec F S992x512 .i32) (x2 x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0_gptq_int4_linear i arg1 harg1 arg2 harg2 arg3 harg3 arg4 harg4 arg5 harg5) K := by
  simp only [cc0_gptq_int4_linear_eq_skeleton]; unfold cc0_gptq_int4_linear_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → Nat) = fun _ => 0 := funext fun a => by fin_cases a <;> rfl
  refine (View.read_writes_eq_canon _ _ _ (cover _)).trans ?_
  rw [View.canon_unit_zero hz]
  simp only [View.readAt_eq_ld]
  rw [View.ld_unit_zero (S := S128x7936) hz, View.ld_unit_zero (S := S992x512) hz, View.ld_unit_zero (S := S1x512) hz,
    View.ld_unit_zero (S := S1x512) hz]

variable (m : (ℓ : Loc nD τ sig) → Buf (Elt F) ℓ) (ρ : Dev nD → PrngReg)

/-! ## The pipeline's proof data -/

/-- Input 1's staging buffer at point `t`: its block, filled out past the array's last column with `d1`. -/
abbrev X1 (c : Dev nD) (t : Fin cfg0.N) (d1 : Vec F S992x512 .i32) : Vec F S992x512 .i32 := win0_1.fill (grid0.coords t) d1 (iblk m c 1 t)
/-- Input 2's likewise. -/
abbrev X2 (c : Dev nD) (t : Fin cfg0.N) (d2 : Vec F S1x512 .f32) : Vec F S1x512 .f32 := win0_2.fill (grid0.coords t) d2 (iblk m c 2 t)
/-- Input 3's likewise. -/
abbrev X3 (c : Dev nD) (t : Fin cfg0.N) (d3 : Vec F S1x512 .f32) : Vec F S1x512 .f32 := win0_3.fill (grid0.coords t) d3 (iblk m c 3 t)

/-- The zero filler of input 1's block, -/
abbrev zi : Vec F S992x512 .i32 := fun _ => (0#32 : BitVec 32)
/-- and of inputs 2's and 3's. -/
abbrev zf : Vec F S1x512 .f32 := fun _ => Scalar.ofBits .f32 0#32

/-- The proof data of the one pipeline on core `c`: the arrays as the region finds them (`V`); after the body each
    input's buffer at its block, filled out with zeros past the array's end, and the output's at the payload of those
    four; the invariant the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X1 m c t zi
    | ⟨2, _⟩ => X2 m c t zf
    | ⟨3, _⟩ => X3 m c t zf
    | ⟨4, _⟩ => k0_pay1 (iblk m c 0 t) (X1 m c t zi) (X2 m c t zf) (X3 m c t zf)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = X1 m c t zi := by dsimp only [dats]
theorem after0_2 (c : Dev nD) (t : Fin cfg0.N) : (dats m 0 c).after 2 t = X2 m c t zf := by dsimp only [dats]
theorem after0_3 (c : Dev nD) (t : Fin cfg0.N) : (dats m 0 c).after 3 t = X3 m c t zf := by dsimp only [dats]
theorem after0_4 (c : Dev nD) (t : Fin cfg0.N) :
    (dats m 0 c).after 4 t = k0_pay1 (iblk m c 0 t) (X1 m c t zi) (X2 m c t zf) (X3 m c t zf) := by dsimp only [dats]

/-- Input 0's staging buffer holds the whole activation array at every point; -/
theorem before0_0 (c : Dev nD) (t : Fin cfg0.N) (d) : (dats m 0 c).before 0 t d = iblk m c 0 t :=
  before0_0_of m (dats m 0 c) (A_eq m c 0) (after0_0 m c) t d
/-- inputs 1, 2 and 3, fetched at every point, hold their block on the columns inside the array and `d` elsewhere. -/
theorem before0_1 (c : Dev nD) (t : Fin cfg0.N) (d) : (dats m 0 c).before 1 t d = X1 m c t d := by
  unfold Dat.before; rw [if_pos (fetch0_1 t)]; unfold Dat.fetched Dat.blockOf X1 iblk; rw [A_eq]
theorem before0_2 (c : Dev nD) (t : Fin cfg0.N) (d) : (dats m 0 c).before 2 t d = X2 m c t d := by
  unfold Dat.before; rw [if_pos (fetch0_2 t)]; unfold Dat.fetched Dat.blockOf X2 iblk; rw [A_eq]
theorem before0_3 (c : Dev nD) (t : Fin cfg0.N) (d) : (dats m 0 c).before 3 t d = X3 m c t d := by
  unfold Dat.before; rw [if_pos (fetch0_3 t)]; unfold Dat.fetched Dat.blockOf X3 iblk; rw [A_eq]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is called with at point `t`: the output's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What the body returns, the inputs of overhanging blocks stated on the part inside the array and the output at `O`. -/
def bodyPost (c : Dev nD) (t : Fin cfg0.N) (O : sProp 𝕄) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ O)

/-- The body at any point, for any statement `O` of the output's buffer that the payload of the four inputs' contents
    has, whatever fills the overhanging blocks out. -/
theorem sound_body (c : Dev nD) (t : Fin cfg0.N) (O : sProp 𝕄)
    (hO : ∀ d1 d2 d3, owns (c : Thread nD τ) (st0_4 t) fullShare (k0_pay1 (iblk m c 0 t) (X1 m c t d1) (X2 m c t d2) (X3 m c t d3)) ⊢ O) :
    bodyPre m c t ⊢ wp frame (wpE (defs₀ (F := F)) Variants.none c none) Set.univ (bodyAt0 t) (fun _ => bodyPost m c t O) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, X1, X2, X3, Window.cut_fill, Window.cut_fill, Window.cut_fill]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (X1 m c t d1) (X2 m c t d2) (X3 m c t d3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iapply (hO d1 d2 d3)
  iexact H4

end Cert.Proof.Kernel

end
-- ==== Proof.KernelFrame.lean ====
/-
  The run of `Kernel` at any float values, its output array forgotten: every argument array ends unchanged and every
  semaphore counter ends at zero.
-/
module

public import proofs.«01_k».proof.Proof.KernelBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

variable (m : (ℓ : Loc nD τ sig) → Buf (Elt F) ℓ) (ρ : Dev nD → PrngReg)

/-- The window whose contents the frame does not state: the output's. -/
abbrev fgt : Fin cfg0.W → Bool := fun | 0 => false | 1 => false | 2 => false | 3 => false | 4 => true | ⟨_ + 5, h⟩ => absurd h (Nat.not_lt.2 (Nat.le_add_left _ _))

/-- The body obligation at every point, the output's buffer left at anything. -/
theorem body_obligation (c : Dev nD) :
    BodyObligationLoose (dats (F := F) m 0 c) (defs₀ (F := F)) Variants.none () Set.univ fgt := fun t => by
  rw [bigSep_W0, bigSep_W0, defs₀_row]
  exact triple_restated (sound_body m c t iprop(∃ X, owns (c : Thread nD τ) (st0_4 t) fullShare X)
    (fun d1 d2 d3 => by iintro H; iexists _; iexact H)) rfl .rfl fun _ => .rfl

/-- The lines after the region write the reshaped result only. -/
theorem tail_writes : ∀ ops ∈ ([hostOps1] : List (List (HloOp τ sig (Elt F)))), ∀ op ∈ ops, ∀ b : Ref sig .tc,
    Proc.devRef .tc b ∈ op.writes → b ∈ ({main_v15} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact StableHlo.devRef_ne_of_ne hne hb

set_option backward.isDefEq.respectTransparency.types false in
/-- THE FRAME: @main runs, its argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (dats m) (0 : Fin 1) launch0 defs₀ Variants.none fgt {main_v15} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := A_eq m) (hΦ := fun _ _ => rfl) (Q' := _)
    (hQ' := fun r h => ⟨fun c =>
      ⟨((h.1 c).2 main_arg0 (Finset.mem_sdiff.mpr ⟨Pipeline.mem_restRefs_of main_arg0 (by decide) (by decide), by decide⟩)).trans (V_main_arg0 m c),
        (h.1.arr_in c 1 rfl).trans ((A_eq m c 1).trans (V_main_arg1 m c)),
        ((h.1 c).2 main_arg2 (Finset.mem_sdiff.mpr ⟨Pipeline.mem_restRefs_of main_arg2 (by decide) (by decide), by decide⟩)).trans (V_main_arg2 m c),
        ((h.1 c).2 main_arg3 (Finset.mem_sdiff.mpr ⟨Pipeline.mem_restRefs_of main_arg3 (by decide) (by decide), by decide⟩)).trans (V_main_arg3 m c)⟩, h.2⟩)

end Cert.Proof.Kernel

end
-- ==== Proof.KernelIdealBody.lean ====
/-
  What one run of the body of `KernelIdeal` does to its staging buffers, and the pipeline's proof data: blocks of the last grid
  point overhang their arrays, so a buffer is stated only on the columns inside the array.
-/
module

public import proofs.«01_k».proof.Proof.KernelBody
public import proofs.«01_k».proof.Proof.Gen.KernelIdeal.Frame
public import proofs.«01_k».proof.Proof.Gen.KernelIdeal.Skeleton
public import Idealize.ShloMosaic.Lib.Pipeline.ValueKit
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

/-! ## The body's triple -/

/-- The body's one store, of a whole staging buffer, covers it. -/
theorem cover (p : Vec F S128x512 .bf16) (y : S128x512.Idx) :
    ∃ pc ∈ ([⟨Rect.unit (s := S128x512) ![0, 0] S128x512.size inb_S128x512_S128x512_0_0, p⟩] : List (View.Piece (Elt F) S128x512 .bf16)), y ∈ pc.1.set :=
  View.cover_of_tiled _ S128x512.size (by rfl) y

/-- The kernel body on whole staging buffers, the inputs' at contents `x0 … x3` and the output's at anything, leaves the
    inputs' as they were and the output's at the payload `k0_pay1` of the four inputs' contents. -/
theorem sound_kernel (c : Dev nD) (E : Set ℕ) (i : grid0.Coords)
    (arg1 : Memref sig .tc .vmem S128x7936 .bf16) (harg1 : arg1.IsWhole) (arg2 : Memref sig .tc .vmem S992x512 .i32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S128x512 .bf16) (harg5 : arg5.IsWhole)
    (x0 : Vec F S128x7936 .bf16) (x1 : Vec F S992x512 .i32) (x2 x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k0_pay1 x0 x1 x2 x3)) -∗ K ⟨⟩))
      ⊢ wp frame (wpE (defs₀ (F := F)) Variants.none c none) E (cc0_gptq_int4_linear i arg1 harg1 arg2 harg2 arg3 harg3 arg4 harg4 arg5 harg5) K := by
  simp only [cc0_gptq_int4_linear_eq_skeleton]; unfold cc0_gptq_int4_linear_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → Nat) = fun _ => 0 := funext fun a => by fin_cases a <;> rfl
  refine (View.read_writes_eq_canon _ _ _ (cover _)).trans ?_
  rw [View.canon_unit_zero hz]
  simp only [View.readAt_eq_ld]
  rw [View.ld_unit_zero (S := S128x7936) hz, View.ld_unit_zero (S := S992x512) hz, View.ld_unit_zero (S := S1x512) hz,
    View.ld_unit_zero (S := S1x512) hz]

variable (m : (ℓ : Loc nD τ sig) → Buf (Elt F) ℓ) (ρ : Dev nD → PrngReg)

/-! ## The pipeline's proof data -/

/-- Input 1's staging buffer at point `t`: its block, filled out past the array's last column with `d1`. -/
abbrev X1 (c : Dev nD) (t : Fin cfg0.N) (d1 : Vec F S992x512 .i32) : Vec F S992x512 .i32 := win0_1.fill (grid0.coords t) d1 (iblk m c 1 t)
/-- Input 2's likewise. -/
abbrev X2 (c : Dev nD) (t : Fin cfg0.N) (d2 : Vec F S1x512 .f32) : Vec F S1x512 .f32 := win0_2.fill (grid0.coords t) d2 (iblk m c 2 t)
/-- Input 3's likewise. -/
abbrev X3 (c : Dev nD) (t : Fin cfg0.N) (d3 : Vec F S1x512 .f32) : Vec F S1x512 .f32 := win0_3.fill (grid0.coords t) d3 (iblk m c 3 t)

/-- The zero filler of input 1's block, -/
abbrev zi : Vec F S992x512 .i32 := fun _ => (0#32 : BitVec 32)
/-- and of inputs 2's and 3's. -/
abbrev zf : Vec F S1x512 .f32 := fun _ => Scalar.ofBits .f32 0#32

/-- The proof data of the one pipeline on core `c`: the arrays as the region finds them (`V`); after the body each
    input's buffer at its block, filled out with zeros past the array's end, and the output's at the payload of those
    four; the invariant the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X1 m c t zi
    | ⟨2, _⟩ => X2 m c t zf
    | ⟨3, _⟩ => X3 m c t zf
    | ⟨4, _⟩ => k0_pay1 (iblk m c 0 t) (X1 m c t zi) (X2 m c t zf) (X3 m c t zf)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = X1 m c t zi := by dsimp only [dats]
theorem after0_2 (c : Dev nD) (t : Fin cfg0.N) : (dats m 0 c).after 2 t = X2 m c t zf := by dsimp only [dats]
theorem after0_3 (c : Dev nD) (t : Fin cfg0.N) : (dats m 0 c).after 3 t = X3 m c t zf := by dsimp only [dats]
theorem after0_4 (c : Dev nD) (t : Fin cfg0.N) :
    (dats m 0 c).after 4 t = k0_pay1 (iblk m c 0 t) (X1 m c t zi) (X2 m c t zf) (X3 m c t zf) := by dsimp only [dats]

/-- Input 0's staging buffer holds the whole activation array at every point; -/
theorem before0_0 (c : Dev nD) (t : Fin cfg0.N) (d) : (dats m 0 c).before 0 t d = iblk m c 0 t :=
  before0_0_of m (dats m 0 c) (A_eq m c 0) (after0_0 m c) t d
/-- inputs 1, 2 and 3, fetched at every point, hold their block on the columns inside the array and `d` elsewhere. -/
theorem before0_1 (c : Dev nD) (t : Fin cfg0.N) (d) : (dats m 0 c).before 1 t d = X1 m c t d := by
  unfold Dat.before; rw [if_pos (fetch0_1 t)]; unfold Dat.fetched Dat.blockOf X1 iblk; rw [A_eq]
theorem before0_2 (c : Dev nD) (t : Fin cfg0.N) (d) : (dats m 0 c).before 2 t d = X2 m c t d := by
  unfold Dat.before; rw [if_pos (fetch0_2 t)]; unfold Dat.fetched Dat.blockOf X2 iblk; rw [A_eq]
theorem before0_3 (c : Dev nD) (t : Fin cfg0.N) (d) : (dats m 0 c).before 3 t d = X3 m c t d := by
  unfold Dat.before; rw [if_pos (fetch0_3 t)]; unfold Dat.fetched Dat.blockOf X3 iblk; rw [A_eq]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is called with at point `t`: the output's buffer at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What the body returns, the inputs of overhanging blocks stated on the part inside the array and the output at `O`. -/
def bodyPost (c : Dev nD) (t : Fin cfg0.N) (O : sProp 𝕄) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t))))
    ∗ O)

/-- The body at any point, for any statement `O` of the output's buffer that the payload of the four inputs' contents
    has, whatever fills the overhanging blocks out. -/
theorem sound_body (c : Dev nD) (t : Fin cfg0.N) (O : sProp 𝕄)
    (hO : ∀ d1 d2 d3, owns (c : Thread nD τ) (st0_4 t) fullShare (k0_pay1 (iblk m c 0 t) (X1 m c t d1) (X2 m c t d2) (X3 m c t d3)) ⊢ O) :
    bodyPre m c t ⊢ wp frame (wpE (defs₀ (F := F)) Variants.none c none) Set.univ (bodyAt0 t) (fun _ => bodyPost m c t O) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, X1, X2, X3, Window.cut_fill, Window.cut_fill, Window.cut_fill]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (X1 m c t d1) (X2 m c t d2) (X3 m c t d3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iapply (hO d1 d2 d3)
  iexact H4

end Cert.Proof.KernelIdeal

end
-- ==== Proof.Nibble.lean ====
/-
  The uint4 field of a 32-bit word, as the value it is converted to: the kernel's truncation of the shifted word to four bits
  and the reference's mask of it with 15 are one number.
-/
module

public import Idealize.ShloMosaic.Lib.Pipeline.ValueKit
public import Idealize.ShloMosaic.Lib.Claim

@[expose] public section

noncomputable section

namespace Cert.Proof

open Idealize.ShloMosaic Idealize.ShloMosaic.Tactic

/-- Field `k` of the word `w`, lowest first: the word shifted down by `4 * k` bits and masked with 15. -/
def nibble (w : BitVec 32) (k : ℕ) : BitVec 32 :=
  IntOp.andi (IntOp.shrsi .host w (IntOp.muli (4#32) (BitVec.ofNat 32 k))) 15#32

/-- The number field `k` of the word `w` stands for, `0 … 15`. -/
def code (w : BitVec 32) (k : ℕ) : EReal := (((nibble w k).toInt : ℝ) : EReal)

/-- A shift by `4 * k` bits, `k < 8`, is below the word's width, so both units do the same arithmetic shift. -/
theorem shrsi_vector_eq_host (w : BitVec 32) (k : ℕ) (hk : k < 8) :
    IntOp.shrsi .vector w (IntOp.muli (4#32) (BitVec.ofNat 32 k)) = IntOp.shrsi .host w (IntOp.muli (4#32) (BitVec.ofNat 32 k)) := by
  have h : (IntOp.muli (4#32) (BitVec.ofNat 32 k)).toNat < 32 := by
    interval_cases k <;> decide
  unfold IntOp.shrsi
  rw [if_pos h, if_pos h]

/-- The low four bits of a word read unsigned are the word masked with 15 read signed. -/
theorem toNat_setWidth_eq_toInt_and (v : BitVec 32) : ((v.setWidth 4).toNat : ℤ) = (v &&& 15#32).toInt := by
  have h1 : (v &&& 15#32).toNat = v.toNat % 16 := by
    rw [BitVec.toNat_and]
    exact Nat.and_two_pow_sub_one_eq_mod v.toNat 4
  rw [BitVec.toInt_eq_toNat_of_lt (by rw [h1]; omega), h1, BitVec.toNat_setWidth]

/-- The kernel's field — the shifted word truncated to four bits and read unsigned — is the number `code` names. -/
theorem uitofp_trunc (w : BitVec 32) (k : ℕ) (hk : k < 8) (φ : FTy) :
    FloatOps.uitofp (F := Ideal) φ (BitVec.setWidth 4 (IntOp.shrsi .vector w (IntOp.muli (4#32) (BitVec.ofNat 32 k)))) = code w k := by
  rw [shrsi_vector_eq_host w k hk]
  show ((((BitVec.setWidth 4 (IntOp.shrsi .host w (IntOp.muli (4#32) (BitVec.ofNat 32 k)))).toNat : ℝ)) : EReal) = _
  unfold code nibble IntOp.andi
  rw [← toNat_setWidth_eq_toInt_and, Int.cast_natCast]

/-- The reference's field — the shifted word masked with 15 and read signed — is the number `code` names. -/
theorem sitofp_mask (w : BitVec 32) (k : ℕ) (φ : FTy) :
    FloatOps.sitofp (F := Ideal) φ (IntOp.andi (IntOp.shrsi .host w (IntOp.muli (4#32) (BitVec.ofNat 32 k))) 15#32) = code w k := rfl

end Cert.Proof

end
-- ==== Proof.Payload.lean ====
/-
  What one run of the body computes, read at an index: column `j` of the output block is determined by column `j` of the
  three column blocks and the whole activation block.
-/
module

public import proofs.«01_k».proof.Proof.Nibble
public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL.Sem

/-- The payload at row `i` and column `j`: the column's scale times (the dot product of the activation row with the
    column's codes, less the column's zero point times the activation row's sum). Row `k` of the codes is field `k % 8` of
    word `k / 8`. -/
theorem pay_apply (x : FVec Ideal S128x7936 .bf16) (w : IVec S992x512 32) (s z : FVec Ideal S1x512 .f32) (i : Fin 128) (j : Fin 512) :
    k0_pay1 (F := Ideal) x w s z (ix2 i j)
      = s (ix2 0 j) * ((∑ k : Fin 7936, x (ix2 i k) * code (w (ix2 ⟨k.val / 8, by omega⟩ j)) (k.val % 8))
          - z (ix2 0 j) * ∑ k : Fin 7936, x (ix2 i k)) := by
  pointwise [k0_pay1]
  refine congrArg (s (ix2 0 j) * ·) (congrArg (· - z (ix2 0 j) * ∑ k : Fin 7936, x (ix2 i k)) ?_)
  exact Finset.sum_congr rfl fun k _ => congrArg (x (ix2 i k) * ·) (uitofp_trunc _ _ (Nat.mod_lt _ (by decide)) _)

/-- The payload's column `j` reads the three column blocks in column `j` only. -/
theorem pay_congr_column (x : FVec Ideal S128x7936 .bf16) (w w' : IVec S992x512 32) (s s' z z' : FVec Ideal S1x512 .f32) (i : Fin 128)
    (j : Fin 512) (hw : ∀ a : Fin 992, w (ix2 a j) = w' (ix2 a j)) (hs : s (ix2 0 j) = s' (ix2 0 j)) (hz : z (ix2 0 j) = z' (ix2 0 j)) :
    k0_pay1 (F := Ideal) x w s z (ix2 i j) = k0_pay1 (F := Ideal) x w' s' z' (ix2 i j) := by
  rw [pay_apply, pay_apply, hs, hz]
  refine congrArg (s' (ix2 0 j) * ·) (congrArg (· - z' (ix2 0 j) * ∑ k : Fin 7936, x (ix2 i k)) ?_)
  exact Finset.sum_congr rfl fun k _ => by rw [hw]

end Cert.Proof.KernelIdeal

end
-- ==== Proof.KernelIdealBlocks.lean ====
/-
  The blocks of `KernelIdeal` read at coordinates: at point `t`, column `j` of a block is column `512 * t + j` of its array,
  for the columns inside the array; so what the body leaves on those columns of the output block does not depend on what
  fills the overhanging blocks out.
-/
module

public import proofs.«01_k».proof.Proof.KernelIdealBody
public import proofs.«01_k».proof.Proof.Payload

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable (m : (ℓ : Loc nD τ sig) → Buf (Elt Ideal) ℓ) (ρ : Dev nD → PrngReg)

/-- The windows' index maps at every point: the activation window is constant, the others move one block a point. -/
theorem idx : ∀ t : Fin cfg0.N, win0_0.index t = ![0, 0] ∧ win0_1.index t = ![0, t.val] ∧ win0_2.index t = ![0, t.val]
    ∧ win0_3.index t = ![0, t.val] ∧ win0_4.index t = ![0, t.val] := (by decide +kernel : ∀ t : Fin grid0.N, _)

/-- The sizes of the part of each block inside its array: 512 columns, and 384 at the last point. -/
theorem xsizes : ∀ t : Fin cfg0.N, win0_1.xsize (grid0.coords t) = ![992, min 512 (8576 - 512 * t.val)]
    ∧ win0_2.xsize (grid0.coords t) = ![1, min 512 (8576 - 512 * t.val)] ∧ win0_3.xsize (grid0.coords t) = ![1, min 512 (8576 - 512 * t.val)]
    ∧ win0_4.xsize (grid0.coords t) = ![128, min 512 (8576 - 512 * t.val)] := (by decide +kernel : ∀ t : Fin grid0.N, _)

/-- Input 1's buffer on a column inside the array is the array's column, whatever fills the rest out. -/
theorem X1_at (c : Dev nD) (t : Fin cfg0.N) (d : IVec S992x512 32) (a : Fin 992) (j : Fin 512) (hj : 512 * t.val + j.val < 8576) :
    X1 m c t d (ix2 a j) = V m c main_arg1 (ix2 a ⟨512 * t.val + j.val, hj⟩) := by
  unfold X1 Window.fill
  rw [dif_pos ((win0_1.moved_iff _ _).mpr fun b => by
    rw [(xsizes t).1]
    match b with
    | ⟨0, _⟩ => exact a.isLt
    | ⟨1, _⟩ => show j.val < min 512 (8576 - 512 * t.val); omega)]
  blk_ext [iblk, V, idx t]

/-- Input 2's likewise. -/
theorem X2_at (c : Dev nD) (t : Fin cfg0.N) (d : FVec Ideal S1x512 .f32) (j : Fin 512) (hj : 512 * t.val + j.val < 8576) :
    X2 m c t d (ix2 0 j) = V m c main_v13 (ix2 0 ⟨512 * t.val + j.val, hj⟩) := by
  unfold X2 Window.fill
  rw [dif_pos ((win0_2.moved_iff _ _).mpr fun b => by
    rw [(xsizes t).2.1]
    match b with
    | ⟨0, _⟩ => show (0 : ℕ) < 1; omega
    | ⟨1, _⟩ => show j.val < min 512 (8576 - 512 * t.val); omega)]
  blk_ext [iblk, idx t]

/-- Input 3's likewise. -/
theorem X3_at (c : Dev nD) (t : Fin cfg0.N) (d : FVec Ideal S1x512 .f32) (j : Fin 512) (hj : 512 * t.val + j.val < 8576) :
    X3 m c t d (ix2 0 j) = V m c main_v11 (ix2 0 ⟨512 * t.val + j.val, hj⟩) := by
  unfold X3 Window.fill
  rw [dif_pos ((win0_3.moved_iff _ _).mpr fun b => by
    rw [(xsizes t).2.2.1]
    match b with
    | ⟨0, _⟩ => show (0 : ℕ) < 1; omega
    | ⟨1, _⟩ => show j.val < min 512 (8576 - 512 * t.val); omega)]
  blk_ext [iblk, idx t]

/-- Input 0's block is the whole activation array at every point. -/
theorem iblk0_eq (c : Dev nD) (t : Fin cfg0.N) : iblk m c 0 t = V m c main_v12 := by
  blk_ext! [iblk, idx t]

/-- An index of the part of the output block inside the array is below 128 and, with the point's offset, below 8576. -/
theorem out_bounds (t : Fin cfg0.N) (y : (win0_4.xblock (grid0.coords t)).Idx) : (y 0 : ℕ) < 128 ∧ (y 1 : ℕ) < 512 ∧ 512 * t.val + (y 1 : ℕ) < 8576 := by
  have h0 : (y 0 : ℕ) < win0_4.xsize (grid0.coords t) 0 := (y 0).isLt
  have h1 : (y 1 : ℕ) < win0_4.xsize (grid0.coords t) 1 := (y 1).isLt
  rw [(xsizes t).2.2.2] at h0 h1
  have h0' : (y 0 : ℕ) < 128 := h0
  have h1' : (y 1 : ℕ) < min 512 (8576 - 512 * t.val) := h1
  omega

/-- That index as an index of the block. -/
theorem xinj_eq (t : Fin cfg0.N) (y : (win0_4.xblock (grid0.coords t)).Idx) :
    win0_4.xinj (grid0.coords t) y = (ix2 ⟨(y 0 : ℕ), (out_bounds t y).1⟩ ⟨(y 1 : ℕ), (out_bounds t y).2.1⟩ : S128x512.Idx) := by
  funext a
  match a with
  | ⟨0, _⟩ => rfl
  | ⟨1, _⟩ => rfl

/-- On the columns inside the array the payload does not depend on what fills the overhanging blocks out. -/
theorem cut_pay (c : Dev nD) (t : Fin cfg0.N) (d1 : IVec S992x512 32) (d2 d3 : FVec Ideal S1x512 .f32) :
    win0_4.cut (grid0.coords t) (k0_pay1 (F := Ideal) (iblk m c 0 t) (X1 m c t d1) (X2 m c t d2) (X3 m c t d3))
      = win0_4.cut (grid0.coords t) (k0_pay1 (F := Ideal) (iblk m c 0 t) (X1 m c t zi) (X2 m c t zf) (X3 m c t zf)) := by
  funext y
  unfold Window.cut
  rw [xinj_eq]
  have hj := (out_bounds t y).2.2
  have h1 : ∀ a : Fin 992, X1 m c t d1 (ix2 a ⟨(y 1 : ℕ), (out_bounds t y).2.1⟩) = X1 m c t (zi (F := Ideal)) (ix2 a ⟨(y 1 : ℕ), (out_bounds t y).2.1⟩) :=
    fun a => by rw [X1_at m c t d1 a _ hj, X1_at m c t _ a _ hj]
  have h2 : X2 m c t d2 (ix2 0 ⟨(y 1 : ℕ), (out_bounds t y).2.1⟩) = X2 m c t (zf (F := Ideal)) (ix2 0 ⟨(y 1 : ℕ), (out_bounds t y).2.1⟩) := by
    rw [X2_at m c t d2 _ hj, X2_at m c t _ _ hj]
  have h3 : X3 m c t d3 (ix2 0 ⟨(y 1 : ℕ), (out_bounds t y).2.1⟩) = X3 m c t (zf (F := Ideal)) (ix2 0 ⟨(y 1 : ℕ), (out_bounds t y).2.1⟩) := by
    rw [X3_at m c t d3 _ hj, X3_at m c t _ _ hj]
  exact pay_congr_column _ _ _ _ _ _ _ _ _ h1 h2 h3

end Cert.Proof.KernelIdeal

end
-- ==== Proof.KernelIdealRun.lean ====
/-
  The run of `KernelIdeal`: what every buffer holds at the end, and the frame.
-/
module

public import proofs.«01_k».proof.Proof.KernelIdealBlocks

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable (m : (ℓ : Loc nD τ sig) → Buf (Elt Ideal) ℓ) (ρ : Dev nD → PrngReg)

/-- The body obligation at every point, each overhanging buffer stated on the columns inside the array. -/
theorem body_obligation (c : Dev nD) :
    BodyObligationLoose (dats (F := Ideal) m 0 c) (defs₀ (F := Ideal)) Variants.none () Set.univ := fun t => by
  rw [bigSep_W0, bigSep_W0, defs₀_row]
  refine triple_restated (sound_body m c t iprop(∃ d, owns (c : Thread nD τ) (st0_4 t) fullShare
      (win0_4.fill (grid0.coords t) d (win0_4.cut (grid0.coords t) ((dats m 0 c).after 4 t))))
    (fun d1 d2 d3 => ?_)) rfl ?_ fun _ => .rfl
  · iintro H
    iexists (k0_pay1 (F := Ideal) (iblk m c 0 t) (X1 m c t d1) (X2 m c t d2) (X3 m c t d3))
    rw [after0_4, win0_4.fill_congr_cut _ (cut_pay m c t d1 d2 d3)]
    iexact H
  · unfold bodyPre
    iintro ⟨HΦ, Ho, H0, H1, H2, H3, ⟨%d4, H4⟩⟩
    isplitl [HΦ]; · iexact HΦ
    isplitl [Ho]; · iexact Ho
    isplitl [H0]; · iexact H0
    isplitl [H1]; · iexact H1
    isplitl [H2]; · iexact H2
    isplitl [H3]; · iexact H3
    iexists _; iexact H4

set_option backward.isDefEq.respectTransparency.types false in
/-- THE LAUNCH: every execution ends, with every array of the pipeline at what the proof data give, every other buffer as
    the host lines leave it, and every semaphore counter at zero. -/
theorem run_main_quiescent : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- The same without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- THE FRAME: @main runs, its argument arrays end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Layer.lean ====
/-
  The layer's result as one formula over the four arguments, entry by entry.
-/
module

public import proofs.«01_k».proof.Proof.Nibble
public import proofs.«01_k».proof.KernelIdeal

@[expose] public section

noncomputable section

namespace Cert.Proof

open Cert.KernelIdeal
open Idealize.ShloMosaic Idealize.ShloMosaic.Tactic

/-- Entry `(i, j)` of the layer: the scale of column `j` times (the dot product of activation row `i` with the codes of
    column `j`, less the column's zero point times the row's sum). The code of input `k` is field `k % 8` of word `k / 8` of
    the column; the zero point of column `j` is field `j % 8` of word `j / 8`. -/
def layer (x : FVec Ideal S128x1x7936 .bf16) (w : IVec S992x8576 32) (s : FVec Ideal S8576 .f32) (z : IVec S1072 32)
    (i : Fin 128) (j : Fin 8576) : EReal :=
  s (ix1 j) * ((∑ k : Fin 7936, x (ix3 i 0 k) * code (w (ix2 ⟨k.val / 8, by omega⟩ j)) (k.val % 8))
    - code (z (ix1 ⟨j.val / 8, by omega⟩)) (j.val % 8) * ∑ k : Fin 7936, x (ix3 i 0 k))

/-- The layer's result array, two-dimensional as the kernel computes it. -/
def layer2 (x : FVec Ideal S128x1x7936 .bf16) (w : IVec S992x8576 32) (s : FVec Ideal S8576 .f32) (z : IVec S1072 32) :
    FVec Ideal S128x8576 .bf16 := fun y => layer x w s z (y 0) (y 1)

/-- The layer's result array, in the shape @main returns. -/
def layer3 (x : FVec Ideal S128x1x7936 .bf16) (w : IVec S992x8576 32) (s : FVec Ideal S8576 .f32) (z : IVec S1072 32) :
    FVec Ideal S128x1x8576 .bf16 := fun y => layer x w s z (y 0) (y 2)

end Cert.Proof

end
-- ==== Proof.KernelIdealValue.lean ====
/-
  The result array of `KernelIdeal` is the layer.
-/
module

public import proofs.«01_k».proof.Proof.KernelIdealRun
public import proofs.«01_k».proof.Proof.Layer

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable (m : (ℓ : Loc nD τ sig) → Buf (Elt Ideal) ℓ) (ρ : Dev nD → PrngReg)

/-- The arguments on core `c`, at their literal types. -/
abbrev argX (c : Dev nD) : FVec Ideal S128x1x7936 .bf16 := m ((c : Thread nD τ).loc main_arg0)
abbrev argW (c : Dev nD) : IVec S992x8576 32 := m ((c : Thread nD τ).loc main_arg1)
abbrev argS (c : Dev nD) : FVec Ideal S8576 .f32 := m ((c : Thread nD τ).loc main_arg2)
abbrev argZ (c : Dev nD) : IVec S1072 32 := m ((c : Thread nD τ).loc main_arg3)

/-- The activation array the region reads is the argument without its unit axis. -/
theorem V_x (c : Dev nD) : (V m c main_v12 : FVec Ideal S128x7936 .bf16) = shapeCast S128x7936 (argX m c) shapeCasts_S128x1x7936_S128x7936 := by
  simp only [V, V0, hostOps0, List.flatten_cons, List.flatten_nil, List.append_nil]
  after_results_simp <;> rfl

/-- The scale row the region reads is the argument as one row. -/
theorem V_s (c : Dev nD) : (V m c main_v13 : FVec Ideal S1x8576 .f32) = shapeCast S1x8576 (argS m c) shapeCasts_S8576_S1x8576 := by
  simp only [V, V0, hostOps0, List.flatten_cons, List.flatten_nil, List.append_nil]
  after_results_simp <;> rfl

/-- Entry `(i, k)` of the activations. -/
theorem entry_x (c : Dev nD) (i : Fin 128) (k : Fin 7936) :
    (V m c main_v12 : FVec Ideal S128x7936 .bf16) (ix2 i k) = argX m c (ix3 i 0 k) := by
  rw [V_x]; pointwise

/-- Entry `j` of the scale row. -/
theorem entry_s (c : Dev nD) (j : Fin 8576) : (V m c main_v13 : FVec Ideal S1x8576 .f32) (ix2 0 j) = argS m c (ix1 j) := by
  rw [V_s]; pointwise

/-- Entry `j` of the zero-point row is field `j % 8` of word `j / 8` of the argument. -/
theorem entry_z (c : Dev nD) (j : Fin 8576) : (V m c main_v11 : FVec Ideal S1x8576 .f32) (ix2 0 j)
    = code (argZ m c (ix1 ⟨j.val / 8, by omega⟩)) (j.val % 8) := by
  simp only [V, V0, hostOps0, List.flatten_cons, List.flatten_nil, List.append_nil]
  after_results_simp
  pointwise
  exact sitofp_mask _ _ _

/-- Blocks that hold the arguments' entries of one row and one column give the layer's entry there. -/
theorem pay_eq_layer (X : FVec Ideal S128x7936 .bf16) (W : IVec S992x512 32) (S Z : FVec Ideal S1x512 .f32)
    (x : FVec Ideal S128x1x7936 .bf16) (w : IVec S992x8576 32) (s : FVec Ideal S8576 .f32) (z : IVec S1072 32)
    (i : Fin 128) (j : Fin 512) (j' : Fin 8576) (hx : ∀ k : Fin 7936, X (ix2 i k) = x (ix3 i 0 k))
    (hw : ∀ a : Fin 992, W (ix2 a j) = w (ix2 a j')) (hs : S (ix2 0 j) = s (ix1 j'))
    (hz : Z (ix2 0 j) = code (z (ix1 ⟨j'.val / 8, by omega⟩)) (j'.val % 8)) :
    k0_pay1 (F := Ideal) X W S Z (ix2 i j) = layer x w s z i j' := by
  rw [pay_apply, hs, hz]
  unfold layer
  simp only [hx, hw]

/-- What the body leaves on the columns inside the array is, entry by entry, the layer at the array's indices. -/
theorem point (c : Dev nD) (t : Fin cfg0.N) (i : Fin 128) (j : Fin 512) (hj : 512 * t.val + j.val < 8576) :
    k0_pay1 (F := Ideal) (iblk m c 0 t) (X1 m c t zi) (X2 m c t zf) (X3 m c t zf) (ix2 i j)
      = layer (argX m c) (argW m c) (argS m c) (argZ m c) i ⟨512 * t.val + j.val, hj⟩ :=
  pay_eq_layer _ _ _ _ _ _ _ _ i j _
    (fun k => (congrFun (iblk0_eq m c t) (ix2 i k)).trans (entry_x m c i k))
    (fun a => (X1_at m c t _ a j hj).trans (congrFun (V_main_arg1 m c) _))
    ((X2_at m c t _ j hj).trans (entry_s m c _))
    ((X3_at m c t _ j hj).trans (entry_z m c _))

/-- The output window, put together over the grid, is the layer as a matrix. -/
theorem final (c : Dev nD) : (dats m 0 c).arrAt 4 cfg0.N = layer2 (argX m c) (argW m c) (argS m c) (argZ m c) := by
  refine (dats m 0 c).arrAt_eq_of_covers 4 _ (by decide +kernel) fun t hf y => ?_
  have he : ((cfg0.win 4).blk t).view.emb y
      = (ix2 ⟨(y 0 : ℕ), (out_bounds t y).1⟩ ⟨512 * t.val + (y 1 : ℕ), (out_bounds t y).2.2⟩ : S128x8576.Idx) := by
    blk_ext [idx t]
  refine (congrFun (after0_4 m c t) _).trans ?_
  refine (congrArg (k0_pay1 (F := Ideal) (iblk m c 0 t) (X1 m c t zi) (X2 m c t zf) (X3 m c t zf)) (xinj_eq t y)).trans ?_
  exact (point m c t ⟨_, _⟩ ⟨_, _⟩ (out_bounds t y).2.2).trans (congrArg (layer2 (argX m c) (argW m c) (argS m c) (argZ m c)) he).symm

/-- The layer as a matrix, given the unit axis @main returns it with, is the layer in that shape. -/
theorem layer2_cast (x : FVec Ideal S128x1x7936 .bf16) (w : IVec S992x8576 32) (s : FVec Ideal S8576 .f32) (z : IVec S1072 32) :
    shapeCast S128x1x8576 (layer2 x w s z) shapeCasts_S128x8576_S128x1x8576 = layer3 x w s z := by
  have key : ∀ (i : Fin 128) (j : Fin 8576), shapeCast S128x1x8576 (layer2 x w s z) shapeCasts_S128x8576_S128x1x8576 (ix3 i 0 j)
      = layer x w s z i j := by
    intro i j
    pointwise
    rfl
  funext y
  have hy : y = (ix3 (y 0) 0 (y 2) : S128x1x8576.Idx) := by
    funext a
    match a with
    | ⟨0, _⟩ => rfl
    | ⟨1, _⟩ => exact Subsingleton.elim (α := Fin 1) _ _
    | ⟨2, _⟩ => rfl
  rw [hy]
  exact key _ _

/-- @main's result array, after the host line that follows the region, is the layer. -/
theorem out_eq (c : Dev nD) : Pipeline.afterTail₀ cfgs (dats m) 0 (V0 m) [hostOps1] c main_v15
    = layer3 (argX m c) (argW m c) (argS m c) (argZ m c) := by
  have hA : Pipeline.withArrays (cfgs 0).spec c (V0 m c) (fun w => (dats m 0 c).arrAt w (cfgs 0).N) (Proc.devRef .tc main_v14)
      = layer2 (argX m c) (argW m c) (argS m c) (argZ m c) :=
    (Pipeline.withArrays_arr spec0 launch0.win.arr_inj c (V0 m c) (fun w => (dats m 0 c).arrAt w cfg0.N) 4).trans (final m c)
  unfold Pipeline.afterTail₀
  simp only [hostOps1, List.flatten_cons, List.flatten_nil, List.append_nil]
  after_results_simp
  rw [hA]
  exact layer2_cast _ _ _ _

/-- THE KERNEL'S RUN at the extended reals: its result is the layer of its arguments, and its arguments end unchanged. -/
theorem run : θ_run defs (onTc (τ := τ) (main (F := Ideal))) ⟨m, fun _ => 0, ρ⟩ (fun r => ∀ c : Dev nD,
      r.2.mem ((c.tc : Thread nD τ).loc main_v15) = layer3 (argX m c) (argW m c) (argS m c) (argZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  have hout : θ_run defs (onTc (τ := τ) (main (F := Ideal))) ⟨m, fun _ => 0, ρ⟩ (fun r => ∀ c : Dev nD,
      r.2.mem ((c.tc : Thread nD τ).loc main_v15) = layer3 (argX m c) (argW m c) (argS m c) (argZ m c)) :=
    (θ_run defs _ _).mono (fun _ h c => ((h c).2 main_v15 (Pipeline.mem_restRefs_of main_v15 (by decide) (by decide))).trans (out_eq m c))
      (run_main m ρ)
  (θ_run defs _ _).mono (fun _ h c => ⟨h.1 c, h.2.1 c⟩) (θ_run_and hout (frame m ρ))

end Cert.Proof.KernelIdeal

end
-- ==== Proof.ReferenceValue.lean ====
/-
  The reference's result is the layer.
-/
module

public import proofs.«01_k».proof.Proof.Layer
public import proofs.«01_k».proof.Proof.Gen.ReferenceIdeal.Run
public import Idealize.ShloMosaic.Lib.Pipeline.ValueKit
public import Idealize.ShloMosaic.Lib.Claim
public import Idealize.ShloMosaic.Lib.Quiescent

@[expose] public section

set_option maxRecDepth 16384

noncomputable section

namespace Cert.Proof.Reference

open Cert.ReferenceIdeal Cert.ReferenceIdeal.Gen
open Idealize.ShloMosaic Idealize.ShloMosaic.TcCoe Idealize.ShloMosaic.Tactic
open Idealize.SL.Sem

/-- What the reference's operations compute of the four arguments, as one term. -/
def value (x : FVec Ideal S128x1x7936 .bf16) (w : IVec S992x8576 32) (s : FVec Ideal S8576 .f32) (z : IVec S1072 32) :
    FVec Ideal S128x1x8576 .bf16 :=
  shapeCast S128x1x8576 (truncf .bf16 (mulf (broadcastInDim S128x8576 ![0, 1] bcast_S1x8576_S128x8576_0_1 (broadcastInDim S1x8576
    ![1] bcast_S8576_S1x8576_1 s)) (subf (Host.dotGeneral dot_S128x992x8_S992x8x8576_S128x8576_12_01_0_2_n_n none (shapeCast _ x
    shapeCasts_S128x1x7936_S128x992x8) (sitofp .bf16 (andi (Host.shrsi (broadcastInDim S992x8x8576 ![0, 1, 2]
    bcast_S992x1x8576_S992x8x8576_0_1_2 (broadcastInDim S992x1x8576 ![0, 2] bcast_S992x8576_S992x1x8576_0_2 w)) (broadcastInDim
    S992x8x8576 ![0, 1, 2] bcast_S1x8x1_S992x8x8576_0_1_2 (broadcastInDim S1x8x1 ![1] bcast_S8_S1x8x1_1 (muli (broadcastInDim S8
    ![] bcast_S_S8 (constantI S_ 32 4#32)) (iotaInDim S8 32 0))))) (broadcastInDim S992x8x8576 ![] bcast_S_S992x8x8576 (constantI
    S_ 32 15#32))))) (mulf (broadcastInDim S128x8576 ![0, 1] bcast_S1x8576_S128x8576_0_1 (broadcastInDim S1x8576 ![1]
    bcast_S8576_S1x8576_1 (sitofp .f32 (shapeCast _ (andi (Host.shrsi (broadcastInDim S1072x8 ![0, 1] bcast_S1072x1_S1072x8_0_1
    (broadcastInDim S1072x1 ![0] bcast_S1072_S1072x1_0 z)) (broadcastInDim S1072x8 ![0, 1] bcast_S1x8_S1072x8_0_1 (broadcastInDim
    S1x8 ![1] bcast_S8_S1x8_1 (muli (broadcastInDim S8 ![] bcast_S_S8 (constantI S_ 32 4#32)) (iotaInDim S8 32 0)))))
    (broadcastInDim S1072x8 ![] bcast_S_S1072x8 (constantI S_ 32 15#32))) shapeCasts_S1072x8_S8576)))) (broadcastInDim S128x8576
    ![0, 1] bcast_S128x1_S128x8576_0_1 (broadcastInDim S128x1 ![0] bcast_S128_S128x1_0 (Host.reduceAdd (extf .f32 (shapeCast _ x
    shapeCasts_S128x1x7936_S128x7936) bitsLt_bf16_f32) (constant S_ .f32 0x00000000#32) reducesTo_S128x7936_S128_d1 h_S_))))))
    bitsLt_bf16_f32) shapeCasts_S128x8576_S128x1x8576

/-- The dot product over words and fields is the dot product over inputs: input `k` is field `k % 8` of word `k / 8`. -/
theorem sum_words (f : Fin 7936 → EReal) (w : Fin 992 → BitVec 32) :
    (∑ a : Fin 992, ∑ b : Fin 8, f ⟨a.val * 8 + b.val, by omega⟩ * code (w a) b.val)
      = ∑ k : Fin 7936, f k * code (w ⟨k.val / 8, by omega⟩) (k.val % 8) := by
  rw [Fin.sum_univ_tiles 992 8 rfl fun k : Fin 7936 => f k * code (w ⟨k.val / 8, by omega⟩) (k.val % 8)]
  refine Finset.sum_congr rfl fun a _ => Finset.sum_congr rfl fun b _ => ?_
  have h1 : (⟨(a.val * 8 + b.val) / 8, by omega⟩ : Fin 992) = a := Fin.ext (by show (a.val * 8 + b.val) / 8 = a.val; omega)
  have h2 : (a.val * 8 + b.val) % 8 = b.val := by omega
  show _ = f ⟨a.val * 8 + b.val, _⟩ * code (w ⟨(a.val * 8 + b.val) / 8, _⟩) ((a.val * 8 + b.val) % 8)
  rw [h1, h2]

/-- Entry by entry, the reference's term is the layer. -/
theorem value_eq (x : FVec Ideal S128x1x7936 .bf16) (w : IVec S992x8576 32) (s : FVec Ideal S8576 .f32) (z : IVec S1072 32) :
    value x w s z = layer3 x w s z := by
  have key : ∀ (i : Fin 128) (j : Fin 8576), value x w s z (ix3 i 0 j) = layer x w s z i j := by
    intro i j
    pointwise [value]
    unfold layer
    rw [← sum_words (fun k => x (ix3 i 0 k)) (fun a => w (ix2 a j))]
    rfl
  funext y
  have hy : y = (ix3 (y 0) 0 (y 2) : S128x1x8576.Idx) := by
    funext a
    match a with
    | ⟨0, _⟩ => rfl
    | ⟨1, _⟩ => exact Subsingleton.elim (α := Fin 1) _ _
    | ⟨2, _⟩ => rfl
  rw [hy]
  exact key _ _

variable (m : (ℓ : Loc nD τ sig) → Buf (Elt Ideal) ℓ) (ρ : Dev nD → PrngReg)

/-- THE REFERENCE'S RUN: its result is the layer of its arguments, and its arguments end unchanged. -/
theorem run : θ_run defs (onTc (τ := τ) (main (F := Ideal))) ⟨m, fun _ => 0, ρ⟩ (fun r => ∀ c : Dev nD,
      r.2.mem ((c.tc : Thread nD τ).loc main_v35) = layer3 (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1).trans (value_eq (m ((c.tc : Thread nD τ).loc main_arg0)) (m ((c.tc : Thread nD τ).loc main_arg1))
      (m ((c.tc : Thread nD τ).loc main_arg2)) (m ((c.tc : Thread nD τ).loc main_arg3))), (h c).2⟩) (Cert.ReferenceIdeal.Value.run m ρ)

/-- THE REFERENCE'S FRAME: its arguments end unchanged and, since it declares no semaphore, every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (run m ρ)

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealRun
public import proofs.«01_k».proof.Proof.KernelIdealValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The program at bit-level floats: it runs, its arguments end unchanged and every counter ends at zero. -/
theorem frame_kernel : Cert.quiescent_Kernel := fun m ρ _ => Cert.Proof.Kernel.frame m ρ

/-- The idealized program: the same. -/
theorem frame_kernelIdeal : Cert.quiescent_KernelIdeal := fun m ρ _ => Cert.Proof.KernelIdeal.frame m ρ

/-- The reference: the same. -/
theorem frame_reference : Cert.quiescent_ReferenceIdeal := fun m ρ _ => Cert.Proof.Reference.frame m ρ

/-- The idealization rewrote nothing. -/
theorem preserves : Cert.preserves_Kernel_KernelIdeal := trivial

/-- From equal arguments the kernel and the reference, over the extended reals, end with the same result: the layer
    (Proof/Layer.lean) of those arguments. -/
theorem algebraic : Cert.algebraic_KernelIdeal_ReferenceIdeal := by
  intro m ρ m' ρ' _ hm
  refine ⟨fun c => layer3 (KernelIdeal.argX m c) (KernelIdeal.argW m c) (KernelIdeal.argS m c) (KernelIdeal.argZ m c),
    Cert.Proof.KernelIdeal.run m ρ, ?_⟩
  refine (θ_run _ _ _).mono (fun _ h c => ⟨(h c).1.trans ?_, (h c).2⟩) (Cert.Proof.Reference.run m' ρ')
  obtain ⟨h0, h1, h2, h3⟩ := hm c
  exact congr (congr (congr (congrArg layer3 h0) h1) h2) h3

theorem claim : Cert.Claim := ⟨Cert.Kernel.Gen.facts, Cert.KernelIdeal.Gen.facts, Cert.ReferenceIdeal.Gen.facts,
  frame_kernel, frame_kernelIdeal, frame_reference, preserves, algebraic⟩

end Cert.Proof

end
